-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x22528 : Shape := ⟨2, ![16384, 22528]⟩
abbrev S128x22528 : Shape := ⟨2, ![128, 22528]⟩
abbrev S128 : Shape := ⟨1, ![128]⟩
abbrev S22528x128 : Shape := ⟨2, ![22528, 128]⟩
abbrev S1x128 : Shape := ⟨2, ![1, 128]⟩
abbrev S16384x128 : Shape := ⟨2, ![16384, 128]⟩
abbrev S128x128 : Shape := ⟨2, ![128, 128]⟩

abbrev nBuf : Space → Nat
  | .hbm => 7
  | .vmem => 6
  | .smem => 0
  | _ => 0

abbrev bufTy : (tb : Table) → Fin (tcTables nBuf tb) → BufTy
  | .hbm, ⟨0, _⟩ => ⟨S16384x22528, .f32⟩
  | .hbm, ⟨1, _⟩ => ⟨S128x22528, .f32⟩
  | .hbm, ⟨2, _⟩ => ⟨S128, .f32⟩
  | .hbm, ⟨3, _⟩ => ⟨S22528x128, .f32⟩
  | .hbm, ⟨4, _⟩ => ⟨S22528x128, .bf16⟩
  | .hbm, ⟨5, _⟩ => ⟨S1x128, .f32⟩
  | .hbm, ⟨6, _⟩ => ⟨S16384x128, .f32⟩
  | .local _ .vmem, ⟨0, _⟩ => ⟨S128x22528, .f32⟩
  | .local _ .vmem, ⟨1, _⟩ => ⟨S128x22528, .f32⟩
  | .local _ .vmem, ⟨2, _⟩ => ⟨S22528x128, .bf16⟩
  | .local _ .vmem, ⟨3, _⟩ => ⟨S1x128, .f32⟩
  | .local _ .vmem, ⟨4, _⟩ => ⟨S128x128, .f32⟩
  | .local _ .vmem, ⟨5, _⟩ => ⟨S128x128, .f32⟩
  | _, _ => ⟨S16384x22528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x22528 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S22528x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x22528 : Shape := ⟨2, ![16384, 22528]⟩
abbrev S128x22528 : Shape := ⟨2, ![128, 22528]⟩
abbrev S128 : Shape := ⟨1, ![128]⟩
abbrev S16384x128 : Shape := ⟨2, ![16384, 128]⟩
abbrev S1x128 : Shape := ⟨2, ![1, 128]⟩

abbrev nBuf : Space → Nat
  | .hbm => 7
  | .vmem => 0
  | .smem => 0
  | _ => 0

abbrev bufTy : (tb : Table) → Fin (tcTables nBuf tb) → BufTy
  | .hbm, ⟨0, _⟩ => ⟨S16384x22528, .f32⟩
  | .hbm, ⟨1, _⟩ => ⟨S128x22528, .f32⟩
  | .hbm, ⟨2, _⟩ => ⟨S128, .f32⟩
  | .hbm, ⟨3, _⟩ => ⟨S16384x128, .f32⟩
  | .hbm, ⟨4, _⟩ => ⟨S1x128, .f32⟩
  | .hbm, ⟨5, _⟩ => ⟨S16384x128, .f32⟩
  | .hbm, ⟨6, _⟩ => ⟨S16384x128, .f32⟩
  | _, _ => ⟨S16384x22528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Affine.lean ====
/-
  The function of the claim: an affine layer over the extended reals, `y[r, o] = (∑ k, x[r, k] · W[o, k]) + b[o]`,
  stated index by index, with no mention of blocks, transposes or casts. The kernel (`KernelValue.lean`) and the
  reference (`ReferenceValue.lean`) are each shown to compute it.
-/
module

public import Idealize.ShloMosaic.Lib.Pointwise
public import Idealize.ShloMosaic.PureOps.Ideal

@[expose] public section

noncomputable section

namespace Cert.Layer

open Idealize.ShloMosaic

/-- Result `(r, o)` of the layer: row `r` of the features against row `o` of the weights, plus bias `o`. -/
def affine {rows feats outs : Nat} (x : FVec Ideal ⟨2, ![rows, feats]⟩ .f32) (W : FVec Ideal ⟨2, ![outs, feats]⟩ .f32)
    (b : FVec Ideal ⟨1, ![outs]⟩ .f32) : FVec Ideal ⟨2, ![rows, outs]⟩ .f32 :=
  fun i => ((∑ k : Fin feats, (x (ix2 (i 0) k) * W (ix2 (i 1) k) : EReal)) + b (ix1 (i 1)) : EReal)

end Cert.Layer

end
-- ==== Proof.KernelValue.lean ====
/-
  The idealized kernel: what its result array holds after the run. Point `t` of the 128 writes rows `128·t … 128·t + 127`
  of the result; there the body leaves the product of those rows of `x` with the transposed weights, onto a zero
  accumulator, plus the bias row. The weights reach the kernel transposed and cast to bf16 by the host, and over the
  extended reals the casts are the identity: block by block this is the layer `Cert.Layer.affine` of the arguments.
-/
module

public import proofs.«01_k».proof.Proof.Affine
public import proofs.«01_k».proof.Proof.Gen.KernelIdeal.Value
public import Idealize.ShloMosaic.Lib.Pipeline.ValueKit

@[expose] public section

set_option maxRecDepth 16384

noncomputable section

namespace Cert.KernelIdeal.Layer

open Cert.KernelIdeal Cert.KernelIdeal.Gen Idealize.ShloMosaic Idealize.ShloMosaic.TcCoe Idealize.SL.Sem
open Cert.Layer (affine)

variable (m : (ℓ : Loc nD τ sig) → Buf (Elt Ideal) ℓ) (ρ : Dev nD → PrngReg)

/-- The layer of device `c`'s three argument arrays. -/
abbrev layer (c : Dev nD) : FVec Ideal S16384x128 .f32 :=
  affine (m ((c : Thread nD τ).loc main_arg0)) (m ((c : Thread nD τ).loc main_arg1)) (m ((c : Thread nD τ).loc main_arg2))

/-- Where the windows stand at point `t`: features and result on row block `t`, weights and bias whole. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- What the body stores, at an index: the row by column sum plus the bias of the column. -/
theorem pay_apply (x : FVec Ideal S128x22528 .f32) (w : FVec Ideal S22528x128 .bf16) (b : FVec Ideal S1x128 .f32) (y : S128x128.Idx) :
    k0_pay1 (F := Ideal) x w b y
      = ((∑ k : Fin 22528, (x (ix2 (y 0) k) * w (ix2 k (y 1)) : EReal)) + b (ix2 (0 : Fin 1) (y 1)) : EReal) := by
  pointwise [k0_pay1]

/-- What point `t` stores at `y` is the layer at the place of the result array that `y` stands for. -/
theorem point (c : Dev nD) (t : Fin cfg0.N) (y : S128x128.Idx) :
    k0_pay1 (F := Ideal) (iblk m c 0 t) (iblk m c 1 t) (iblk m c 2 t) y = layer m c (((cfg0.win 3).blk t).view.emb y) := by
  refine (pay_apply _ _ _ y).trans ?_
  unfold layer affine
  blk_point [iblk, V, idx t]

/-- After the run the result array is the layer of the arguments. -/
theorem final (c : Dev nD) : (dats m 0 c).arrAt 3 cfg0.N = layer m c := by
  refine (dats m 0 c).arrAt_eq_of_covers 3 _ (by decide +kernel) fun t _ y => ?_
  blk_simp
  rw [after0_3]
  frame_out
  exact point m c t y

/-- The run: the result array ends at the layer of the arguments, and the arguments are unchanged. -/
theorem run : θ_run defs (onTc (τ := τ) (main (F := Ideal))) ⟨m, fun _ => 0, ρ⟩ fun r => ∀ c : Dev nD,
      r.2.mem ((c : Thread nD τ).loc main_v3) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.Layer

end
-- ==== Proof.ReferenceValue.lean ====
/-
  The reference over the extended reals: its one `dot_general` contracts the second axis of both operands, and the bias
  is broadcast along the rows, so its composed term is the layer `Cert.Layer.affine` of its three arguments.
-/
module

public import proofs.«01_k».proof.Proof.Affine
public import proofs.«01_k».proof.Proof.Gen.ReferenceIdeal.Run
public import Idealize.ShloMosaic.Lib.Pipeline.ValueKit

@[expose] public section

set_option maxRecDepth 16384

noncomputable section

namespace Cert.ReferenceIdeal.Layer

open Cert.ReferenceIdeal Cert.ReferenceIdeal.Gen Idealize.ShloMosaic Idealize.ShloMosaic.TcCoe Idealize.SL.Sem
open Cert.Layer (affine)

/-- The reference's term of its three arguments: the product plus the bias, broadcast first to one row and then to all. -/
abbrev term (x : FVec Ideal S16384x22528 .f32) (W : FVec Ideal S128x22528 .f32) (b : FVec Ideal S128 .f32) :
    FVec Ideal S16384x128 .f32 :=
  addf (Host.dotGeneral dot_S16384x22528_S128x22528_S16384x128_1_1_0_0_n_n none x W)
    (broadcastInDim S16384x128 ![0, 1] bcast_S1x128_S16384x128_0_1 (broadcastInDim S1x128 ![1] bcast_S128_S1x128_1 b))

/-- That term is the layer. -/
theorem term_eq (x : FVec Ideal S16384x22528 .f32) (W : FVec Ideal S128x22528 .f32) (b : FVec Ideal S128 .f32) :
    term x W b = affine x W b := by
  funext i
  pointwise [term, affine]

end Cert.ReferenceIdeal.Layer

end
-- ==== Proof.lean ====
/-
  The certificate's proof: the generated frames of the kernel at its words and of the two idealized programs, and the
  equation of kernel and reference over the extended reals, both being the affine layer `Cert.Layer.affine` of their
  arguments (Proof/KernelValue.lean, Proof/ReferenceValue.lean).
-/
module

public import proofs.«01_k».proof.Defs
public import proofs.«01_k».proof.Proof.Gen.Kernel.Frame
public import proofs.«01_k».proof.Proof.Gen.KernelIdeal.Frame
public import proofs.«01_k».proof.Proof.KernelValue
public import proofs.«01_k».proof.Proof.ReferenceValue
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference's frame: its run keeps the arguments, and it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Kernel and reference, run on equal arguments, both end with the layer of those arguments. -/
theorem algebraic : Cert.algebraic_KernelIdeal_ReferenceIdeal := by
  intro m ρ m' ρ' _ hagree
  refine ⟨fun c => Cert.KernelIdeal.Layer.layer m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.Layer.term_eq _ _ _

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
